-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S1x1x1 : Shape := ⟨3, ![1, 1, 1]⟩
abbrev S1 : Shape := ⟨1, ![1]⟩
abbrev S32768x128 : Shape := ⟨2, ![32768, 128]⟩
abbrev S8192x128 : Shape := ⟨2, ![8192, 128]⟩
abbrev S8192x1 : Shape := ⟨2, ![8192, 1]⟩
abbrev S128x32768x1 : Shape := ⟨3, ![128, 32768, 1]⟩

abbrev nBuf : Space → Nat
  | .hbm => 5
  | .vmem => 2
  | .smem => 1
  | _ => 0

abbrev bufTy : (tb : Table) → Fin (tcTables nBuf tb) → BufTy
  | .hbm, ⟨0, _⟩ => ⟨S128x32768, .f32⟩
  | .hbm, ⟨1, _⟩ => ⟨S1x1x1, .f32⟩
  | .hbm, ⟨2, _⟩ => ⟨S1, .f32⟩
  | .hbm, ⟨3, _⟩ => ⟨S32768x128, .f32⟩
  | .hbm, ⟨4, _⟩ => ⟨S128x32768x1, .f32⟩
  | .local _ .vmem, ⟨0, _⟩ => ⟨S8192x128, .f32⟩
  | .local _ .vmem, ⟨1, _⟩ => ⟨S8192x128, .f32⟩
  | .local _ .smem, ⟨0, _⟩ => ⟨S1, .f32⟩
  | _, _ => ⟨S128x32768, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x32768 : Shape := ⟨2, ![128, 32768]⟩
abbrev S1x1x1 : Shape := ⟨3, ![1, 1, 1]⟩
abbrev S128x3 : Shape := ⟨2, ![128, 3]⟩
abbrev S128x3x1 : Shape := ⟨3, ![128, 3, 1]⟩
abbrev S1x128x1x3x1x1 : Shape := ⟨6, ![1, 128, 1, 3, 1, 1]⟩
abbrev S1x128x1x3x32768x1 : Shape := ⟨6, ![1, 128, 1, 3, 32768, 1]⟩
abbrev S128x3x32768 : Shape := ⟨3, ![128, 3, 32768]⟩
abbrev S128x32768x3 : Shape := ⟨3, ![128, 32768, 3]⟩
abbrev S_ : Shape := ⟨0, ![]⟩
abbrev S128x32768x1 : Shape := ⟨3, ![128, 32768, 1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S1x1x1, .f32⟩
  | .hbm, ⟨2, _⟩ => ⟨S128x3, .f32⟩
  | .hbm, ⟨3, _⟩ => ⟨S128x3, .i32⟩
  | .hbm, ⟨4, _⟩ => ⟨S128x3x1, .f32⟩
  | .hbm, ⟨5, _⟩ => ⟨S1x128x1x3x1x1, .f32⟩
  | .hbm, ⟨6, _⟩ => ⟨S1x128x1x3x32768x1, .f32⟩
  | .hbm, ⟨7, _⟩ => ⟨S128x3x32768, .f32⟩
  | .hbm, ⟨8, _⟩ => ⟨S128x32768x3, .f32⟩
  | .hbm, ⟨9, _⟩ => ⟨S128x32768x3, .i1⟩
  | .hbm, ⟨10, _⟩ => ⟨S128x32768x3, .f32⟩
  | .hbm, ⟨11, _⟩ => ⟨S128x32768x3, .f32⟩
  | .hbm, ⟨12, _⟩ => ⟨S128x32768x3, .f32⟩
  | .hbm, ⟨13, _⟩ => ⟨S_, .f32⟩
  | .hbm, ⟨14, _⟩ => ⟨S128x32768, .f32⟩
  | .hbm, ⟨15, _⟩ => ⟨S128x32768x1, .f32⟩
  | .hbm, ⟨16, _⟩ => ⟨S_, .f32⟩
  | .hbm, ⟨17, _⟩ => ⟨S128x32768x1, .f32⟩
  | .hbm, ⟨18, _⟩ => ⟨S128x32768x1, .f32⟩
  | .hbm, ⟨19, _⟩ => ⟨S1x1, .f32⟩
  | .hbm, ⟨20, _⟩ => ⟨S128x32768x1, .f32⟩
  | .hbm, ⟨21, _⟩ => ⟨S128x32768x1, .f32⟩
  | .hbm, ⟨22, _⟩ => ⟨S128x32768x1, .f32⟩
  | .hbm, ⟨23, _⟩ => ⟨S_, .f32⟩
  | .hbm, ⟨24, _⟩ => ⟨S128x32768, .f32⟩
  | .hbm, ⟨25, _⟩ => ⟨S128x32768x1, .f32⟩
  | .hbm, ⟨26, _⟩ => ⟨S_, .f32⟩
  | .hbm, ⟨27, _⟩ => ⟨S128x32768x1, .f32⟩
  | .hbm, ⟨28, _⟩ => ⟨S128x32768x1, .f32⟩
  | .hbm, ⟨29, _⟩ => ⟨S128x32768x1, .f32⟩
  | .hbm, ⟨30, _⟩ => ⟨S128x32768x1, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Extreme.lean ====
/-
  Arithmetic of the three extended reals `0`, `⊤`, `⊥`.

  The reference subtracts a value from itself and carries the magnitudes of the differences through a sum, a scale, a
  convolution and a normalisation. A finite value leaves the difference `0`, an infinite one an infinite difference, so
  every quantity on the way to the result is `0`, `⊤` or `⊥`; the normalisation sends all three to `0`.
-/
module

public import Idealize.ShloMosaic.PureOps.Ideal.Laws

@[expose] public section

noncomputable section

namespace Cert.Weight

open Idealize.ShloMosaic

/-- An extended real that is zero or infinite. -/
def Extreme (x : EReal) : Prop := x = 0 ∨ x = ⊤ ∨ x = ⊥

/-- Zero is extreme. -/
theorem extreme_zero : Extreme 0 := Or.inl rfl

/-- A sum of two extreme values is extreme. -/
theorem Extreme.add {x y : EReal} (hx : Extreme x) (hy : Extreme y) : Extreme (x + y) := by
  rcases hx with rfl | rfl | rfl <;> rcases hy with rfl | rfl | rfl <;> simp [Extreme]

/-- An extreme value times any extended real is extreme. -/
theorem Extreme.mul {x : EReal} (hx : Extreme x) (b : EReal) : Extreme (x * b) := by
  rcases hx with rfl | rfl | rfl
  · exact Or.inl (zero_mul b)
  · rcases lt_trichotomy b 0 with h | rfl | h
    · exact Or.inr (Or.inr (EReal.top_mul_of_neg h))
    · exact Or.inl (mul_zero _)
    · exact Or.inr (Or.inl (EReal.top_mul_of_pos h))
  · rcases lt_trichotomy b 0 with h | rfl | h
    · exact Or.inr (Or.inl (EReal.bot_mul_of_neg h))
    · exact Or.inl (mul_zero _)
    · exact Or.inr (Or.inr (EReal.bot_mul_of_pos h))

/-- A finite sum of extreme values is extreme. -/
theorem extreme_sum {ι : Type} (s : Finset ι) (f : ι → EReal) (hf : ∀ i, Extreme (f i)) : Extreme (∑ i ∈ s, f i) := by
  classical
  induction s using Finset.induction_on with
  | empty => exact Or.inl Finset.sum_empty
  | insert a s ha ih => rw [Finset.sum_insert ha]; exact (hf a).add ih

/-- The magnitude of the difference of a value with itself is extreme: zero for a finite value, infinite otherwise. -/
theorem extreme_selfDiff (x : EReal) : Extreme (max (x - x) (-(x - x))) := by
  induction x using EReal.rec with
  | bot => exact Or.inr (Or.inl (by simp))
  | coe r => exact Or.inl (by rw [← EReal.coe_sub, sub_self]; simp)
  | top => exact Or.inr (Or.inl (by simp))

/-- The normalisation of an extreme value is zero: zero times anything is zero, and an infinite value has the square
    `⊤`, whose inverse root is zero, whatever the floor `ε` under the square. -/
theorem normalise_extreme {w : EReal} (hw : Extreme w) (ε : EReal) : w * Ideal.rsqrt (max (w * w) ε) = 0 := by
  rcases hw with rfl | rfl | rfl
  · exact zero_mul _
  · rw [EReal.top_mul_top, max_eq_left le_top]
    exact mul_zero _
  · rw [EReal.bot_mul_bot, max_eq_left le_top]
    exact mul_zero _

end Cert.Weight

end
-- ==== Proof.KernelZero.lean ====
/-
  The kernel's result is the zero array, for every pair of arguments: each of the four blocks it writes is zero, the
  blocks tile the array, and the reshape that follows moves zeros to zeros.
-/
module

public import proofs.«01_k».proof.Proof.Extreme
public import proofs.«01_k».proof.Proof.Gen.KernelIdeal.Frame
public import Idealize.ShloMosaic.Lib.Claim
public import Idealize.ShloMosaic.Lib.Pipeline.ValueKit

@[expose] public section

noncomputable section

namespace Cert.Weight.Kernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The value the body stores is zero everywhere, whatever the loaded weight: it normalises zero times the weight plus
    zero. -/
theorem block_zero (b : Elt Ideal .f32) : k0_pay1 (F := Ideal) b = fun _ => (0 : EReal) := by
  have e : Extreme (Ideal.ofBits .f32 0x00000000#32 * b + Ideal.ofBits .f32 0x00000000#32) := by
    rw [Ideal.ofBits_zero_f32, zero_mul, zero_add]
    exact extreme_zero
  exact funext fun _ => normalise_extreme e _

/-- What the body leaves in the staged block is zero everywhere, at every grid point. -/
theorem staged_zero (c : Dev nD) (t : Fin cfg0.N) : outsAt0 m c t = fun _ => (0 : EReal) := by
  unfold outsAt0
  frame_out
  rw [block_zero]

/-- The array the four blocks tile ends at zero everywhere. -/
theorem array_zero (c : Dev nD) : (dats m 0 c).arrAt 1 cfg0.N = fun _ => (0 : EReal) := by
  refine (dats m 0 c).arrAt_eq_of_covers 1 _ (by decide +kernel) fun t hf y => ?_
  blk_simp
  rw [after0_1, staged_zero]

/-- What the reshape after the region leaves in the result array is zero everywhere. -/
theorem result_zero (c : Dev nD) :
    Pipeline.afterTail₀ cfgs (dats m) 0 (V0 m) [hostOps1] c main_v2 = fun _ => (0 : EReal) := by
  unfold Pipeline.afterTail₀
  have e := Pipeline.withArrays_arr spec0 (by decide) c (V0 m c) (fun w => (dats m 0 c).arrAt w cfg0.N) 1
  rw [array_zero] at e
  show StableHlo.after [StableHlo.reshape main_v1 main_v2 rfl shapeCasts_S32768x128_S128x32768x1] _ _ = _
  rw [StableHlo.after_cons, StableHlo.after_nil, StableHlo.reshape_result']
  exact funext fun i => congrFun e _

/-- The kernel's run: from any memory with zero counters it terminates with the result array zero everywhere and the
    argument arrays unchanged. -/
theorem run : θ_run defs (onTc (τ := τ) (main (F := Ideal))) ⟨m, fun _ => 0, ρ⟩ fun r => ∀ c : Dev nD,
      r.2.mem ((c.tc : Thread nD τ).loc main_v2) = (fun _ => (0 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v2 (Pipeline.mem_restRefs_of main_v2 (by decide) (by decide))).trans (result_zero m c), h.2 c⟩)
    (θ_run_and (run_main m ρ) (unchanged m ρ))

end Cert.Weight.Kernel

end
-- ==== Proof.ReferenceZero.lean ====
/-
  The reference's result is the zero array, for every pair of arguments.
-/
module

public import proofs.«01_k».proof.Proof.Extreme
public import proofs.«01_k».proof.Proof.Gen.ReferenceIdeal.Run
public import Idealize.ShloMosaic.Lib.Pipeline.Value

@[expose] public section

noncomputable section

namespace Cert.Weight.Reference

open Cert.ReferenceIdeal Cert.ReferenceIdeal.Gen Idealize.ShloMosaic Idealize.ShloMosaic.TcCoe Idealize.SL.Sem

/-- Choosing between an array and itself, whatever the condition, is that array. -/
theorem select_same {s : Shape} {α : Type} (c : IVec s 1) (x : s.Idx → α) : select c x x = x :=
  funext fun i => by
    show (if c i = 1 then x i else x i) = x i
    split <;> rfl

/-- The magnitude of an array's difference with the copy of it that the comparison selects is extreme everywhere. -/
theorem extreme_diff {s : Shape} (c : IVec s 1) (x : FVec Ideal s .f32) (i : s.Idx) :
    Extreme (Host.absf (subf x (select c x x)) i) := by
  rw [select_same]
  exact extreme_selfDiff (x i)

/-- A host sum of extreme entries, from the zero initial value, is extreme at every index it keeps. -/
theorem extreme_reduceAdd {s t : Shape} {axes : List (Fin s.rank)} (x : FVec Ideal s .f32) (hx : ∀ i, Extreme (x i))
    (h : s.ReducesTo axes t) (hu : 0 < S_.numel) (j : t.Idx) :
    Extreme (Host.reduceAdd x (constant S_ .f32 0x00000000#32) h hu j) := by
  show Extreme (Ideal.ofBits .f32 0x00000000#32 + _)
  refine Extreme.add ?_ (extreme_sum _ _ hx)
  rw [Ideal.ofBits_zero_f32]
  exact extreme_zero

/-- A contraction of extreme entries with any second operand is extreme. -/
theorem extreme_dot {sl sr so : Shape} (d : DotDims sl sr so) (l : FVec Ideal sl .f32) (r : FVec Ideal sr .f32)
    (hl : ∀ i, Extreme (l i)) (j : so.Idx) : Extreme (Host.dotGeneral d none l r j : Ideal .f32) := by
  simp only [Host.dotGeneral]
  rw [Ideal.dotGeneral_apply]
  exact extreme_sum _ _ fun k => (hl _).mul _

/-- The sum over the one channel, laid back over that channel, is the array itself. -/
theorem channelSum (v : FVec Ideal S128x32768x1 .f32) (i : S128x32768x1.Idx) :
    broadcastInDim S128x32768x1 ![0, 1] bcast_S128x32768_S128x32768x1_0_1
      (Host.reduceAdd v (constant S_ .f32 0x00000000#32) reducesTo_S128x32768x1_S128x32768_d2 h_S_) i = v i := by
  have hr : S128x32768x1.Reduces [2] S128x32768 := by decide
  unfold broadcastInDim
  show Ideal.hostReduceAdd reducesTo_S128x32768x1_S128x32768_d2 v (Ideal.ofBits .f32 0x00000000#32) _ = _
  rw [Ideal.hostReduceAdd_single _ hr, Ideal.ofBits_zero_f32, zero_add]
  refine (Fin.sum_univ_one _).trans (congrArg v (funext fun a => Fin.ext ?_))
  have h2 : (i 2 : Nat) < 1 := (i 2).isLt
  fin_cases a
  · rfl
  · rfl
  · show 0 = (i 2 : Nat)
    omega

/-- The normalising product read at an index. -/
theorem normalised_apply {s : Shape} (w q ε : FVec Ideal s .f32) (i : s.Idx) :
    mulf w (Host.rsqrt (maximumf q ε)) i = w i * Ideal.rsqrt (max (q i) (ε i)) := rfl

/-- An array's square read at an index. -/
theorem square_apply {s : Shape} (w : FVec Ideal s .f32) (i : s.Idx) : mulf w w i = w i * w i := rfl

/-- An extreme array times the inverse root of its own channel sum of squares is zero everywhere. -/
theorem normalised_zero (w : FVec Ideal S128x32768x1 .f32) (ε : FVec Ideal S128x32768x1 .f32) (hw : ∀ i, Extreme (w i)) :
    mulf w (Host.rsqrt (maximumf (broadcastInDim S128x32768x1 ![0, 1] bcast_S128x32768_S128x32768x1_0_1
      (Host.reduceAdd (mulf w w) (constant S_ .f32 0x00000000#32) reducesTo_S128x32768x1_S128x32768_d2 h_S_)) ε))
      = fun _ => (0 : EReal) := by
  funext i
  rw [normalised_apply, channelSum, square_apply]
  exact normalise_extreme (hw i) (ε i)

/-- The summed magnitudes, laid over the channel and scaled by any array, are extreme everywhere. -/
theorem extreme_scaled (d : FVec Ideal S128x32768x3 .f32) (o : FVec Ideal S128x32768x1 .f32) (hd : ∀ i, Extreme (d i))
    (i : S128x32768x1.Idx) :
    Extreme (mulf (broadcastInDim S128x32768x1 ![0, 1] bcast_S128x32768_S128x32768x1_0_1
      (Host.reduceAdd d (constant S_ .f32 0x00000000#32) reducesTo_S128x32768x3_S128x32768_d2 h_S_)) o i) :=
  (extreme_reduceAdd d hd reducesTo_S128x32768x3_S128x32768_d2 h_S_ _).mul (o i)

/-- An extreme array added to its own one by one convolution is extreme everywhere, whatever the convolution's weight. -/
theorem extreme_residual (w : FVec Ideal S128x32768x1 .f32) (b : FVec Ideal S1x1 .f32) (hw : ∀ i, Extreme (w i))
    (i : S128x32768x1.Idx) :
    Extreme (addf (Host.dotGeneral (F := Ideal) dot_S128x32768x1_S1x1_S128x32768x1_2_0_01_1_n_n none w b) w i) :=
  (extreme_dot _ w b hw i).add (hw i)

/-- The reference's result is zero at every index, for every pair of arguments. -/
theorem result_zero (m : (ℓ : Loc nD τ sig) → Buf (Elt Ideal) ℓ) (c : Dev nD) :
    Cert.ReferenceIdeal.Value.res_out0 m c = fun _ => (0 : EReal) := by
  unfold Cert.ReferenceIdeal.Value.res_out0 Cert.ReferenceIdeal.Value.res_main_v22
  exact normalised_zero _ _ (extreme_residual _ _ (extreme_scaled _ _ (extreme_diff _ _)))

end Cert.Weight.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelZero
public import proofs.«01_k».proof.Proof.ReferenceZero
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: it terminates, leaves its arguments unchanged, and has no semaphore to leave nonzero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals kernel and reference end with one and the same result, the zero array, whatever the
    arguments. -/
theorem same_result : Cert.algebraic_KernelIdeal_ReferenceIdeal := by
  intro m ρ m' ρ' _ _
  refine ⟨fun _ _ => (0 : EReal), Cert.Weight.Kernel.run m ρ, ?_⟩
  exact (θ_run Cert.ReferenceIdeal.defs _ _).mono
    (fun _ h c => ⟨(h c).1.trans (Cert.Weight.Reference.result_zero m' c), (h c).2⟩)
    (Cert.ReferenceIdeal.Value.run (F := Ideal) m' ρ')

/-- All five claims: the three frames, the kernel's idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_result⟩

end Cert.Proof

end
